-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Reference (m : (ℓ : Loc Cert.Reference.nD Cert.Reference.τ Cert.Reference.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def bitexact_Kernel_Reference [hKernel : Cert.Kernel.Facts] [hReference : Cert.Reference.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)) →
    ∃ (v0 : (c : Dev Cert.Kernel.nD) → Buf (Elt Bits) ((c.tc : Thread Cert.Kernel.nD Cert.Kernel.τ).loc Cert.Kernel.main_v2)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v2) = v0 c
          ∧ r.2.mem ((c.tc : Thread Cert.Kernel.nD Cert.Kernel.τ).loc Cert.Kernel.main_arg0) = m ((c.tc : Thread Cert.Kernel.nD Cert.Kernel.τ).loc Cert.Kernel.main_arg0))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v0) = v0 c
          ∧ r.2.mem ((c.tc : Thread Cert.Reference.nD Cert.Reference.τ).loc Cert.Reference.main_arg0) = m' ((c.tc : Thread Cert.Reference.nD Cert.Reference.τ).loc Cert.Reference.main_arg0))

def Claim : Prop :=
  ∃ (hKernel : Cert.Kernel.Facts) (hKernelIdeal : Cert.KernelIdeal.Facts) (hReferenceIdeal : Cert.ReferenceIdeal.Facts) (hReference : Cert.Reference.Facts),
    quiescent_Kernel (hKernel := hKernel)
    ∧ quiescent_KernelIdeal (hKernelIdeal := hKernelIdeal)
    ∧ quiescent_ReferenceIdeal (hReferenceIdeal := hReferenceIdeal)
    ∧ quiescent_Reference (hReference := hReference)
    ∧ preserves_Kernel_KernelIdeal
    ∧ algebraic_KernelIdeal_ReferenceIdeal (hKernelIdeal := hKernelIdeal) (hReferenceIdeal := hReferenceIdeal)
    ∧ bitexact_Kernel_Reference (hKernel := hKernel) (hReference := hReference)
-- ==== Kernel.lean ====
abbrev S4096x12x30x30 : Shape := ⟨4, ![4096, 12, 30, 30]⟩
abbrev S12x30x30x4096 : Shape := ⟨4, ![12, 30, 30, 4096]⟩
abbrev S10800x4096 : Shape := ⟨2, ![10800, 4096]⟩
abbrev S6x30x30x512 : Shape := ⟨4, ![6, 30, 30, 512]⟩
abbrev S5400x512 : Shape := ⟨2, ![5400, 512]⟩
abbrev S4096x10800 : Shape := ⟨2, ![4096, 10800]⟩

abbrev nBuf : Space → Nat
  | .hbm => 4
  | .vmem => 4
  | .smem => 0
  | _ => 0

abbrev bufTy : (tb : Table) → Fin (tcTables nBuf tb) → BufTy
  | .hbm, ⟨0, _⟩ => ⟨S4096x12x30x30, .f32⟩
  | .hbm, ⟨1, _⟩ => ⟨S12x30x30x4096, .f32⟩
  | .hbm, ⟨2, _⟩ => ⟨S10800x4096, .f32⟩
  | .hbm, ⟨3, _⟩ => ⟨S4096x10800, .f32⟩
  | .local _ .vmem, ⟨0, _⟩ => ⟨S6x30x30x512, .f32⟩
  | .local _ .vmem, ⟨1, _⟩ => ⟨S6x30x30x512, .f32⟩
  | .local _ .vmem, ⟨2, _⟩ => ⟨S5400x512, .f32⟩
  | .local _ .vmem, ⟨3, _⟩ => ⟨S5400x512, .f32⟩
  | _, _ => ⟨S4096x12x30x30, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![2, 8], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S6x30x30x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S5400x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== Reference.lean ====
abbrev S4096x12x30x30 : Shape := ⟨4, ![4096, 12, 30, 30]⟩
abbrev S4096x10800 : Shape := ⟨2, ![4096, 10800]⟩

abbrev nBuf : Space → Nat
  | .hbm => 2
  | .vmem => 0
  | .smem => 0
  | _ => 0

abbrev bufTy : (tb : Table) → Fin (tcTables nBuf tb) → BufTy
  | .hbm, ⟨0, _⟩ => ⟨S4096x12x30x30, .f32⟩
  | .hbm, ⟨1, _⟩ => ⟨S4096x10800, .f32⟩
  | _, _ => ⟨S4096x12x30x30, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]
-- ==== Proof.Layout.lean ====
/-
  The layout mathematics of the flattening, free of any program: a batch-first array of shape [4096, 12, 30, 30] and
  the feature-first array [10800, 4096] that holds the same elements with the three inner axes merged into one.
-/
module

public import Idealize.ShloMosaic.PureOps
public import Idealize.ShloMosaic.Lib.Pipeline.Value
public import Idealize.ShloMosaic.Lib.ValueIdx

@[expose] public section

noncomputable section

namespace Cert.Layout

open Idealize.ShloMosaic Idealize.ShloMosaic.ValueIdx

variable {α : Type}

/-- The position along the batch, channel, row and column axes of the element that sits at feature `f` of batch `b`. -/
def source (f : Fin 10800) (b : Fin 4096) : (⟨4, ![4096, 12, 30, 30]⟩ : Shape).Idx :=
  ix4 b ⟨f / 900, by omega⟩ ⟨f / 30 % 30, by omega⟩ ⟨f % 30, by omega⟩

/-- The feature-first array: row `f`, column `b` holds the element at feature `f` of batch `b`. -/
def merged (x : (⟨4, ![4096, 12, 30, 30]⟩ : Shape).Idx → α) : (⟨2, ![10800, 4096]⟩ : Shape).Idx → α :=
  fun i => x (source (i 0) (i 1))

/-- The transpose of the feature-first array is the batch-first array with its inner axes flattened. -/
theorem transpose_merged (x : (⟨4, ![4096, 12, 30, 30]⟩ : Shape).Idx → α)
    (ht : (⟨2, ![10800, 4096]⟩ : Shape).Transposes [1, 0] ⟨2, ![4096, 10800]⟩)
    (hc : (⟨4, ![4096, 12, 30, 30]⟩ : Shape).ShapeCasts ⟨2, ![4096, 10800]⟩) :
    transpose ⟨2, ![4096, 10800]⟩ [1, 0] (merged x) ht = shapeCast ⟨2, ![4096, 10800]⟩ x hc := by
  funext j
  obtain ⟨b, f, rfl⟩ : ∃ b f, j = ix2 b f := ⟨j 0, j 1, eq_ix2 j⟩
  refine (transpose_apply _ _ ht _ (ix2 f b) fun a => ?_).trans (shapeCast_apply x hc _ (source f b) ?_).symm
  · match a with
    | ⟨0, _⟩ => rfl
    | ⟨1, _⟩ => rfl
  · rw [Shape.rowMajor_val_two, Shape.rowMajor_val_four]
    show ((b.val * 12 + f.val / 900) * 30 + f.val / 30 % 30) * 30 + f.val % 30 = b.val * 10800 + f.val
    omega

/-- One block, [6, 30, 30, 512] recast to [5400, 512]: row `r`, lane `l` of the result is the element of the block at
    channel `r / 900`, row `r / 30 % 30`, column `r % 30` and lane `l`. -/
theorem block_apply (B : (⟨4, ![6, 30, 30, 512]⟩ : Shape).Idx → α)
    (hs : (⟨4, ![6, 30, 30, 512]⟩ : Shape).ShapeCasts ⟨4, ![6, 30, 30, 512]⟩)
    (hc : (⟨4, ![6, 30, 30, 512]⟩ : Shape).ShapeCasts ⟨2, ![5400, 512]⟩) (r : Fin 5400) (l : Fin 512) :
    shapeCast ⟨2, ![5400, 512]⟩ (shapeCast ⟨4, ![6, 30, 30, 512]⟩ B hs) hc (ix2 r l)
      = B (ix4 ⟨r / 900, by omega⟩ ⟨r / 30 % 30, by omega⟩ ⟨r % 30, by omega⟩ l) := by
  refine (shapeCast_apply _ hc _ _ ?_).trans (shapeCast_apply B hs _ _ rfl)
  rw [Shape.rowMajor_val_two, Shape.rowMajor_val_four]
  show ((r.val / 900 * 30 + r.val / 30 % 30) * 30 + r.val % 30) * 512 + l.val = r.val * 512 + l.val
  omega

/-- The batch-last array [12, 30, 30, 4096] read at a channel, row, column and batch. -/
theorem batchLast_apply (x : (⟨4, ![4096, 12, 30, 30]⟩ : Shape).Idx → α)
    (ht : (⟨4, ![4096, 12, 30, 30]⟩ : Shape).Transposes [1, 2, 3, 0] ⟨4, ![12, 30, 30, 4096]⟩)
    (j : (⟨4, ![12, 30, 30, 4096]⟩ : Shape).Idx) :
    transpose ⟨4, ![12, 30, 30, 4096]⟩ [1, 2, 3, 0] x ht j = x (ix4 (j 3) (j 0) (j 1) (j 2)) := by
  refine transpose_apply _ _ ht _ _ fun a => ?_
  match a with
  | ⟨0, _⟩ => rfl
  | ⟨1, _⟩ => rfl
  | ⟨2, _⟩ => rfl
  | ⟨3, _⟩ => rfl

end Cert.Layout

end
-- ==== Proof.KernelIdealValue.lean ====
/-
  What the idealized kernel computes: its result is the argument with the three inner axes flattened, over any float
  values.
-/
module

public import proofs.«01_k».proof.Proof.Gen.KernelIdeal.Frame
public import proofs.«01_k».proof.Proof.Layout
public import Idealize.ShloMosaic.Lib.Pipeline.ValueKit

@[expose] public section

noncomputable section

namespace Cert.KernelIdeal.FlatValue

open Idealize.ShloMosaic Idealize.ShloMosaic.TcCoe
open Idealize.SL.Sem
open Cert.KernelIdeal Cert.KernelIdeal.Gen

variable {F : FTy → Type} [FloatOps F]
variable (m : (ℓ : Loc nD τ sig) → Buf (Elt F) ℓ) (ρ : Dev nD → PrngReg)

/-- The block the input window shows at a grid point: one group of channels, one group of lanes. -/
theorem inBlock : ∀ t : Fin cfg0.N,
    win0_0.index t = ![win0_1.index t 0, 0, 0, win0_1.index t 1] :=
  (by decide +kernel : ∀ t : Fin grid0.N, _)

/-- The region finds the argument with its batch axis moved last. -/
theorem entry (c : Dev nD) : V m c main_v0
    = transpose S12x30x30x4096 [1, 2, 3, 0] (m ((c : Thread nD τ).loc main_arg0))
        transposes_S4096x12x30x30_S12x30x30x4096_1_2_3_0 := by
  entry_read
  rfl

/-- One grid point: the body's block, read at a row and lane, is the feature-first array at the place the block has
    there. -/
theorem point (c : Dev nD) (t : Fin cfg0.N) (y : S5400x512.Idx) :
    k0_pay1 (iblk m c 0 t) y
      = Cert.Layout.merged (m ((c : Thread nD τ).loc main_arg0)) (((cfg0.win 1).blk t).view.emb y) := by
  obtain ⟨r, l, rfl⟩ : ∃ (r : Fin 5400) (l : Fin 512), y = ValueIdx.ix2 r l := ⟨y 0, y 1, ValueIdx.eq_ix2 y⟩
  refine (Cert.Layout.block_apply (iblk m c 0 t) _ _ r l).trans ?_
  show V m c main_v0 (((cfg0.win 0).blk t).view.emb
    (ValueIdx.ix4 ⟨r / 900, _⟩ ⟨r / 30 % 30, _⟩ ⟨r % 30, _⟩ l)) = _
  rw [entry]
  refine (Cert.Layout.batchLast_apply _ _ _).trans (congrArg _ (funext fun a => Fin.ext ?_))
  match a with
  | ⟨0, _⟩ =>
    show (((cfg0.win 0).blk t).view.emb _ 3).val = (((cfg0.win 1).blk t).view.emb _ 1).val
    blk_simp [inBlock t]
    rfl
  | ⟨1, _⟩ =>
    show (((cfg0.win 0).blk t).view.emb _ 0).val = (((cfg0.win 1).blk t).view.emb _ 0).val / 900
    blk_simp [inBlock t]
    show win0_1.index t 0 * 6 + r.val / 900 = (win0_1.index t 0 * 5400 + r.val) / 900
    omega
  | ⟨2, _⟩ =>
    show (((cfg0.win 0).blk t).view.emb _ 1).val = (((cfg0.win 1).blk t).view.emb _ 0).val / 30 % 30
    blk_simp [inBlock t]
    show r.val / 30 % 30 = (win0_1.index t 0 * 5400 + r.val) / 30 % 30
    omega
  | ⟨3, _⟩ =>
    show (((cfg0.win 0).blk t).view.emb _ 2).val = (((cfg0.win 1).blk t).view.emb _ 0).val % 30
    blk_simp [inBlock t]
    show r.val % 30 = (win0_1.index t 0 * 5400 + r.val) % 30
    omega

/-- After the last grid point the region's result is the feature-first array: every block writes its own rows and
    lanes of it, and together the blocks cover it. -/
theorem final (c : Dev nD) :
    (dats m 0 c).arrAt 1 cfg0.N = Cert.Layout.merged (m ((c : Thread nD τ).loc main_arg0)) := by
  refine (dats m 0 c).arrAt_eq_of_covers 1 _ (by decide +kernel) fun t hf y => ?_
  rw [after0_1]
  frame_out
  exact point m c t y

/-- The lines after the region leave in the result buffer the argument with its inner axes flattened. -/
theorem tail (c : Dev nD) (hc : S4096x12x30x30.ShapeCasts S4096x10800) :
    Pipeline.afterTail₀ cfgs (dats m) 0 (V0 m) [hostOps1] c main_v2
      = shapeCast S4096x10800 (m ((c : Thread nD τ).loc main_arg0)) hc := by
  unfold Pipeline.afterTail₀
  show StableHlo.after hostOps1 _ (Proc.devRef .tc main_v2) = _
  after_results
  refine (congrArg (fun x => transpose S4096x10800 [1, 0] x transposes_S10800x4096_S4096x10800_1_0)
    ((Pipeline.withArrays_arr spec0 launch0.win.arr_inj c (V0 m c) (fun w => (dats m 0 c).arrAt w cfg0.N) 1).trans
      (final m c))).trans ?_
  exact Cert.Layout.transpose_merged _ _ hc

/-- Every run of the idealized kernel ends with the flattened argument in the result buffer and the argument
    unchanged. -/
theorem run (hc : S4096x12x30x30.ShapeCasts S4096x10800) :
    θ_run defs (onTc (τ := τ) (main (F := F))) (s₀ m ρ) (fun r => ∀ c : Dev nD,
      r.2.mem ((c : Thread nD τ).loc main_v2) = shapeCast S4096x10800 (m ((c : Thread nD τ).loc main_arg0)) hc
      ∧ r.2.mem ((c : Thread nD τ).loc main_arg0) = m ((c : Thread nD τ).loc main_arg0)) :=
  (θ_run defs _ _).mono (fun _ h c =>
    ⟨((h c).2 main_v2 (Pipeline.mem_restRefs_of main_v2 (by decide) (by decide))).trans (tail m c hc),
      ((h c).2 main_arg0 (Pipeline.mem_restRefs_of main_arg0 (by decide) (by decide))).trans
        (W_main_arg0 m (dats m) c)⟩) (run_main m ρ)

end Cert.KernelIdeal.FlatValue

end
-- ==== Proof.lean ====
/-
  The kernel flattens the three inner axes of its argument, and so does the reference. The frames of the kernel and of
  its idealization are the generated ones; the references are one host operation; the two value claims meet at the
  flattened argument (KernelValue.lean, KernelIdealValue.lean).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Reference
public import proofs.«01_k».proof.Proof.KernelIdealValue
public import proofs.«01_k».proof.Proof.KernelValue
public import Idealize.ShloMosaic.Lib.Claim
public import Idealize.ShloMosaic.Lib.Quiescent
public import Idealize.ShloMosaic.Adequacy
public import Idealize.ShloMosaic.Init

@[expose] public section

noncomputable section

namespace Cert.Proof

open Idealize.ShloMosaic Idealize.SL.Sem

/-- The reference over the extended reals leaves the flattened argument in its result and the argument as it was. -/
theorem referenceIdeal_run
    (m : (ℓ : Loc ReferenceIdeal.nD ReferenceIdeal.τ ReferenceIdeal.sig) → Buf (Elt Ideal) ℓ)
    (g : Dev ReferenceIdeal.nD → PrngReg) :
    θ_run (ReferenceIdeal.defs (F := Ideal)) (onTc (τ := ReferenceIdeal.τ) (ReferenceIdeal.main (F := Ideal)))
      ⟨m, fun _ => 0, g⟩ (fun r => ∀ c : Dev ReferenceIdeal.nD,
        r.2.mem ((c.tc : Thread ReferenceIdeal.nD ReferenceIdeal.τ).loc ReferenceIdeal.main_v0)
            = shapeCast ReferenceIdeal.S4096x10800
                (m ((c.tc : Thread ReferenceIdeal.nD ReferenceIdeal.τ).loc ReferenceIdeal.main_arg0))
                ReferenceIdeal.Gen.facts.shapeCasts_S4096x12x30x30_S4096x10800
          ∧ r.2.mem ((c.tc : Thread ReferenceIdeal.nD ReferenceIdeal.τ).loc ReferenceIdeal.main_arg0)
            = m ((c.tc : Thread ReferenceIdeal.nD ReferenceIdeal.τ).loc ReferenceIdeal.main_arg0)) := by
  hlo_run
  rfl

/-- The reference over bit patterns, the same. -/
theorem reference_run
    (m : (ℓ : Loc Reference.nD Reference.τ Reference.sig) → Buf (Elt Bits) ℓ)
    (g : Dev Reference.nD → PrngReg) :
    θ_run (Reference.defs (F := Bits)) (onTc (τ := Reference.τ) (Reference.main (F := Bits)))
      ⟨m, fun _ => 0, g⟩ (fun r => ∀ c : Dev Reference.nD,
        r.2.mem ((c.tc : Thread Reference.nD Reference.τ).loc Reference.main_v0)
            = shapeCast Reference.S4096x10800
                (m ((c.tc : Thread Reference.nD Reference.τ).loc Reference.main_arg0))
                Reference.Gen.facts.shapeCasts_S4096x12x30x30_S4096x10800
          ∧ r.2.mem ((c.tc : Thread Reference.nD Reference.τ).loc Reference.main_arg0)
            = m ((c.tc : Thread Reference.nD Reference.τ).loc Reference.main_arg0)) := by
  hlo_run
  rfl

/-- The idealized kernel and the reference end with equal results over the extended reals. -/
theorem algebraic : Cert.algebraic_KernelIdeal_ReferenceIdeal := by
  intro m g m' g' _ hagree
  refine ⟨_, KernelIdeal.FlatValue.run m g
    ReferenceIdeal.Gen.facts.shapeCasts_S4096x12x30x30_S4096x10800, ?_⟩
  refine (θ_run _ _ _).mono (fun r h c => ⟨(h c).1.trans ?_, (h c).2⟩) (referenceIdeal_run m' g')
  rw [hagree c]

/-- The kernel and the reference end with the same bits. -/
theorem bitexact : Cert.bitexact_Kernel_Reference := by
  intro m g m' g' _ hagree
  refine ⟨_, Kernel.FlatValue.run m g Reference.Gen.facts.shapeCasts_S4096x12x30x30_S4096x10800, ?_⟩
  refine (θ_run _ _ _).mono (fun r h c => ⟨(h c).1.trans ?_, (h c).2⟩) (reference_run m' g')
  rw [hagree c]

/-- All seven claims. -/
theorem claim : Cert.Claim :=
  ⟨Cert.Kernel.Gen.facts, Cert.KernelIdeal.Gen.facts, Cert.ReferenceIdeal.Gen.facts, Cert.Reference.Gen.facts,
    fun m g _ => Cert.Kernel.Gen.frame m g,
    fun m g _ => Cert.KernelIdeal.Gen.frame m g,
    fun m g _ => (θ_run _ _ _).mono
      (fun r h => ⟨fun c => (h c).2, sem_eq_zero_of_no_sems (by decide) r.2⟩) (referenceIdeal_run m g),
    fun m g _ => (θ_run _ _ _).mono
      (fun r h => ⟨fun c => (h c).2, sem_eq_zero_of_no_sems (by decide) r.2⟩) (reference_run m g),
    trivial, algebraic, bitexact⟩

end Cert.Proof

end
